-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_x_finite [hPre_x_finite : Cert.Pre_x_finite.Facts] (m : (ℓ : Loc Cert.KernelIdeal.nD Cert.KernelIdeal.τ Cert.KernelIdeal.sig) → Buf (Elt Ideal) ℓ) : Prop :=
  ∀ c : Dev Cert.KernelIdeal.nD,
    (Cert.Pre_x_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_x_finite [hPre_x_finite : Cert.Pre_x_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_x_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_x_finite [hKernelIdeal : Cert.KernelIdeal.Facts] [hPre_x_finite : Cert.Pre_x_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_x_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_x_finite [hReferenceIdeal : Cert.ReferenceIdeal.Facts] [hPre_x_finite : Cert.Pre_x_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_x_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_x_finite [hKernelIdeal : Cert.KernelIdeal.Facts] [hReferenceIdeal : Cert.ReferenceIdeal.Facts] [hPre_x_finite : Cert.Pre_x_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_x_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_x_finite : Cert.Pre_x_finite.Facts),
    quiescent_Kernel (hKernel := hKernel)
    ∧ quiescent_KernelIdeal (hKernelIdeal := hKernelIdeal)
    ∧ quiescent_KernelIdeal_pre_x_finite (hKernelIdeal := hKernelIdeal) (hPre_x_finite := hPre_x_finite)
    ∧ quiescent_ReferenceIdeal (hReferenceIdeal := hReferenceIdeal)
    ∧ quiescent_ReferenceIdeal_pre_x_finite (hReferenceIdeal := hReferenceIdeal) (hPre_x_finite := hPre_x_finite)
    ∧ preserves_Kernel_KernelIdeal
    ∧ algebraic_KernelIdeal_ReferenceIdeal_pre_x_finite (hKernelIdeal := hKernelIdeal) (hReferenceIdeal := hReferenceIdeal) (hPre_x_finite := hPre_x_finite)
-- ==== Pre_x_finite.lean ====
abbrev S8x1024x256 : Shape := ⟨3, ![8, 1024, 256]⟩
abbrev S8x1024x32 : Shape := ⟨3, ![8, 1024, 32]⟩
abbrev S_ : Shape := ⟨0, ![]⟩

class Facts : Prop where
  bcast_S_S8x1024x256 : S_.BroadcastsInDim S8x1024x256 (![] : Fin 0 → Fin S8x1024x256.rank)

variable [Facts]

def fn {F : FTy → Type} [FloatOps F] (main_arg0 : FVec F S8x1024x256 .f32) (main_arg1 : FVec F S8x1024x32 .f32) : IVec S8x1024x256 1 :=
  let main_v0 : FVec F S8x1024x256 .f32 := Host.absf main_arg0
  let main_cst : FVec F S_ .f32 := constant S_ .f32 0x7F800000#32
  let main_v1 : FVec F S8x1024x256 .f32 := broadcastInDim S8x1024x256 ![] bcast_S_S8x1024x256 main_cst
  let main_v2 : IVec S8x1024x256 1 := cmpf .olt main_v0 main_v1
  main_v2
-- ==== Kernel.lean ====
abbrev S8x1024x256 : Shape := ⟨3, ![8, 1024, 256]⟩
abbrev S8x1024x32 : Shape := ⟨3, ![8, 1024, 32]⟩
abbrev S8192x256 : Shape := ⟨2, ![8192, 256]⟩
abbrev S8x32x1024 : Shape := ⟨3, ![8, 32, 1024]⟩
abbrev S256x1024 : Shape := ⟨2, ![256, 1024]⟩
abbrev S8192x8 : Shape := ⟨2, ![8192, 8]⟩
abbrev S2048x256 : Shape := ⟨2, ![2048, 256]⟩
abbrev S2048x8 : Shape := ⟨2, ![2048, 8]⟩
abbrev S8x1024 : Shape := ⟨2, ![8, 1024]⟩
abbrev S32x1024 : Shape := ⟨2, ![32, 1024]⟩
abbrev S1024 : Shape := ⟨1, ![1024]⟩
abbrev S1x1024 : Shape := ⟨2, ![1, 1024]⟩
abbrev S2048x1024 : Shape := ⟨2, ![2048, 1024]⟩
abbrev S2048x32 : Shape := ⟨2, ![2048, 32]⟩
abbrev S2048 : Shape := ⟨1, ![2048]⟩
abbrev S2048x1 : Shape := ⟨2, ![2048, 1]⟩
abbrev S8x1024x8 : Shape := ⟨3, ![8, 1024, 8]⟩

abbrev nBuf : Space → Nat
  | .hbm => 7
  | .vmem => 6
  | .smem => 0
  | _ => 0

abbrev bufTy : (tb : Table) → Fin (tcTables nBuf tb) → BufTy
  | .hbm, ⟨0, _⟩ => ⟨S8x1024x256, .f32⟩
  | .hbm, ⟨1, _⟩ => ⟨S8x1024x32, .f32⟩
  | .hbm, ⟨2, _⟩ => ⟨S8192x256, .f32⟩
  | .hbm, ⟨3, _⟩ => ⟨S8x32x1024, .f32⟩
  | .hbm, ⟨4, _⟩ => ⟨S256x1024, .f32⟩
  | .hbm, ⟨5, _⟩ => ⟨S8192x8, .i32⟩
  | .hbm, ⟨6, _⟩ => ⟨S8x1024x8, .i32⟩
  | .local _ .vmem, ⟨0, _⟩ => ⟨S2048x256, .f32⟩
  | .local _ .vmem, ⟨1, _⟩ => ⟨S2048x256, .f32⟩
  | .local _ .vmem, ⟨2, _⟩ => ⟨S256x1024, .f32⟩
  | .local _ .vmem, ⟨3, _⟩ => ⟨S2048x8, .i32⟩
  | .local _ .vmem, ⟨4, _⟩ => ⟨S2048x8, .i32⟩
  | .local _ .vmem, ⟨5, _⟩ => ⟨S8x1024, .f32⟩
  | _, _ => ⟨S8x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x8 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S8x1024x256 : Shape := ⟨3, ![8, 1024, 256]⟩
abbrev S8x1024x32 : Shape := ⟨3, ![8, 1024, 32]⟩
abbrev S8x1024x8x32 : Shape := ⟨4, ![8, 1024, 8, 32]⟩
abbrev S_ : Shape := ⟨0, ![]⟩
abbrev S8x1024x8 : Shape := ⟨3, ![8, 1024, 8]⟩
abbrev S8x1024x8x1 : Shape := ⟨4, ![8, 1024, 8, 1]⟩
abbrev S8x1024 : Shape := ⟨2, ![8, 1024]⟩
abbrev S1x1x8x1024 : Shape := ⟨4, ![1, 1, 8, 1024]⟩
abbrev S8x1024x8x1024 : Shape := ⟨4, ![8, 1024, 8, 1024]⟩

abbrev nBuf : Space → Nat
  | .hbm => 25
  | .vmem => 0
  | .smem => 0
  | _ => 0

abbrev bufTy : (tb : Table) → Fin (tcTables nBuf tb) → BufTy
  | .hbm, ⟨0, _⟩ => ⟨S8x1024x256, .f32⟩
  | .hbm, ⟨1, _⟩ => ⟨S8x1024x32, .f32⟩
  | .hbm, ⟨2, _⟩ => ⟨S8x1024x8x32, .f32⟩
  | .hbm, ⟨3, _⟩ => ⟨S8x1024x8x32, .f32⟩
  | .hbm, ⟨4, _⟩ => ⟨S_, .f32⟩
  | .hbm, ⟨5, _⟩ => ⟨S8x1024x8, .f32⟩
  | .hbm, ⟨6, _⟩ => ⟨S8x1024x8x1, .f32⟩
  | .hbm, ⟨7, _⟩ => ⟨S8x1024x32, .f32⟩
  | .hbm, ⟨8, _⟩ => ⟨S_, .f32⟩
  | .hbm, ⟨9, _⟩ => ⟨S8x1024, .f32⟩
  | .hbm, ⟨10, _⟩ => ⟨S1x1x8x1024, .f32⟩
  | .hbm, ⟨11, _⟩ => ⟨S8x1024x8x1024, .f32⟩
  | .hbm, ⟨12, _⟩ => ⟨S8x1024x8x1024, .f32⟩
  | .hbm, ⟨13, _⟩ => ⟨S_, .f32⟩
  | .hbm, ⟨14, _⟩ => ⟨S8x1024x8x1024, .f32⟩
  | .hbm, ⟨15, _⟩ => ⟨S8x1024x8x1024, .f32⟩
  | .hbm, ⟨16, _⟩ => ⟨S8x1024x8x1024, .f32⟩
  | .hbm, ⟨17, _⟩ => ⟨S8x1024x8x1024, .f32⟩
  | .hbm, ⟨18, _⟩ => ⟨S8x1024x8x1024, .f32⟩
  | .hbm, ⟨19, _⟩ => ⟨S8x1024x8x1024, .f32⟩
  | .hbm, ⟨20, _⟩ => ⟨S8x1024x8x1024, .i32⟩
  | .hbm, ⟨21, _⟩ => ⟨S_, .f32⟩
  | .hbm, ⟨22, _⟩ => ⟨S_, .i32⟩
  | .hbm, ⟨23, _⟩ => ⟨S8x1024x8, .f32⟩
  | .hbm, ⟨24, _⟩ => ⟨S8x1024x8, .i32⟩
  | _, _ => ⟨S8x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_call0_v0 : Ref sig .tc := ⟨.hbm, 20, rfl⟩
abbrev main_call0_cst : Ref sig .tc := ⟨.hbm, 21, rfl⟩
abbrev main_call0_c : Ref sig .tc := ⟨.hbm, 22, rfl⟩
abbrev main_call0_v1_0 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== Proof.FirstMin.lean ====
/-
  The first position of a least value, for a family of extended reals over `Fin n`, and the two ways the programs find
  it. `IsFirstMin f k` says that `f k` is least and that every earlier value is strictly larger; there is exactly one
  such `k` (`IsFirstMin.unique`, `exists_isFirstMin`), and it depends on the order of the values only
  (`IsFirstMin.of_le_iff`).
  * The kernel takes the minimum of the values, then the minimum of the positions where the value equals it
    (`fold_min_eq`, `fold_min_positions`), and turns that real number into a word (`fptosi_nat`).
  * The reference folds (value, position) pairs through a body that keeps the smaller value and, of two equal values, the
    smaller position: it keeps the lexicographically smaller pair (`argmin_foldl`, `isFirstMin_of_pairs`).
-/
module

public import Idealize.ShloMosaic.PureOps.Ideal.Laws
public import Idealize.ShloMosaic.Lib.ValueIdx

@[expose] public section

noncomputable section

namespace Cert.Proof

open Idealize.ShloMosaic

/-! ## The first least position -/

/-- `k` is the first position at which `f` is least. -/
def IsFirstMin {n : ℕ} (f : Fin n → EReal) (k : Fin n) : Prop :=
  (∀ j, f k ≤ f j) ∧ ∀ j, j < k → f k < f j

/-- There is at most one first least position. -/
theorem IsFirstMin.unique {n : ℕ} {f : Fin n → EReal} {k k' : Fin n} (h : IsFirstMin f k) (h' : IsFirstMin f k') :
    k = k' := by
  rcases lt_trichotomy k k' with hlt | heq | hgt
  · exact absurd (h'.2 k hlt) (not_lt.mpr (h.1 k'))
  · exact heq
  · exact absurd (h.2 k' hgt) (not_lt.mpr (h'.1 k))

/-- A nonempty family has a first least position. -/
theorem exists_isFirstMin {n : ℕ} (hn : 0 < n) (f : Fin n → EReal) : ∃ k, IsFirstMin f k := by
  haveI : Nonempty (Fin n) := ⟨⟨0, hn⟩⟩
  obtain ⟨m, hm⟩ := Finite.exists_min f
  have hne : (Finset.univ.filter fun j => f j = f m).Nonempty := ⟨m, by simp⟩
  have hmem := Finset.min'_mem _ hne
  have hval : f (Finset.min' _ hne) = f m := (Finset.mem_filter.mp hmem).2
  refine ⟨Finset.min' _ hne, fun j => hval.le.trans (hm j), fun j hj => lt_of_le_of_ne (hval.le.trans (hm j)) fun he => ?_⟩
  exact absurd (Finset.min'_le _ j (by simp [← he, hval])) (not_le.mpr hj)

/-- Two families in the same order have the same first least position. -/
theorem IsFirstMin.of_le_iff {n : ℕ} {f g : Fin n → EReal} (h : ∀ i j, f i ≤ f j ↔ g i ≤ g j) {k : Fin n}
    (hk : IsFirstMin f k) : IsFirstMin g k :=
  ⟨fun j => (h k j).mp (hk.1 j), fun j hj => not_le.mp fun hle => not_le.mpr (hk.2 j hj) ((h j k).mpr hle)⟩

/-! ## The kernel's two minima -/

/-- Folding `min` from `⊤` over a family whose value at `k` is least gives that value. -/
theorem fold_min_eq {n : ℕ} (f : Fin n → EReal) (k : Fin n) (hk : ∀ j, f k ≤ f j) :
    (Finset.univ : Finset (Fin n)).fold min ⊤ f = f k :=
  le_antisymm ((Finset.fold_min_le (f k)).mpr (.inr ⟨k, Finset.mem_univ k, le_rfl⟩))
    ((Finset.le_fold_min (f k)).mpr ⟨le_top, fun j _ => hk j⟩)

/-- The position `j` where the value is the least one, a number past every position elsewhere: the least of these is
    the first least position. -/
theorem fold_min_positions {n : ℕ} (f : Fin n → EReal) (k : Fin n) (hk : IsFirstMin f k) (far : EReal)
    (hfar : ∀ j : Fin n, ((j.val : ℝ) : EReal) ≤ far) (g : Fin n → EReal)
    (hg : ∀ j, g j = if f j = f k then ((j.val : ℝ) : EReal) else far) :
    (Finset.univ : Finset (Fin n)).fold min ⊤ g = ((k.val : ℝ) : EReal) := by
  have hgk : g k = ((k.val : ℝ) : EReal) := by rw [hg, if_pos rfl]
  rw [← hgk]
  refine fold_min_eq g k fun j => ?_
  rw [hgk, hg j]
  split
  · next he =>
    have : k ≤ j := not_lt.mp fun hlt => absurd he.symm (hk.2 j hlt).ne
    exact_mod_cast this
  · exact hfar k

/-- A natural number below `2^31`, as an extended real, is truncated to its own word. -/
theorem fptosi_nat (k : ℕ) (hk : k < 2 ^ 31) : Ideal.fptosi 32 ((k : ℝ) : EReal) = BitVec.ofNat 32 k := by
  have h1 : ((k : ℤ)) < 2 ^ 31 := by exact_mod_cast hk
  unfold Ideal.fptosi
  rw [Ideal.toIntClamped_coe, if_pos (Nat.cast_nonneg k), Int.floor_natCast,
    min_eq_right (by norm_num; omega), max_eq_right (by norm_num), BitVec.ofInt_natCast]

/-! ## The reference's fold of pairs -/

/-- The pair `p` comes no later than `q`: its value is smaller, or the values are equal and its word is no larger. -/
def PairLE (p q : EReal × BitVec 32) : Prop := p.1 < q.1 ∨ (p.1 = q.1 ∧ p.2.toInt ≤ q.2.toInt)

/-- A pair is no later than itself. -/
theorem PairLE.refl (p : EReal × BitVec 32) : PairLE p p := .inr ⟨rfl, le_rfl⟩

/-- Being no later is transitive. -/
theorem PairLE.trans {p q r : EReal × BitVec 32} (h : PairLE p q) (h' : PairLE q r) : PairLE p r := by
  rcases h with h | ⟨h, hw⟩ <;> rcases h' with h' | ⟨h', hw'⟩
  · exact .inl (h.trans h')
  · exact .inl (h' ▸ h)
  · exact .inl (h ▸ h')
  · exact .inr ⟨h.trans h', hw.trans hw'⟩

/-- A body that returns one of its two pairs, coming no later than either. -/
def IsPairMin (body : EReal × BitVec 32 → EReal × BitVec 32 → EReal × BitVec 32) : Prop :=
  ∀ a b, (body a b = a ∨ body a b = b) ∧ PairLE (body a b) a ∧ PairLE (body a b) b

/-- Folding such a body over a list gives the starting pair or a member, coming no later than any of them. -/
theorem argmin_foldl {body : EReal × BitVec 32 → EReal × BitVec 32 → EReal × BitVec 32} (hb : IsPairMin body)
    (l : List (EReal × BitVec 32)) (p : EReal × BitVec 32) :
    (l.foldl body p = p ∨ l.foldl body p ∈ l) ∧ PairLE (l.foldl body p) p ∧ ∀ q ∈ l, PairLE (l.foldl body p) q := by
  induction l generalizing p with
  | nil => exact ⟨.inl rfl, .refl p, fun q hq => absurd hq List.not_mem_nil⟩
  | cons a l ih =>
    obtain ⟨hm, hp, hl⟩ := ih (body p a)
    obtain ⟨hc, hcp, hca⟩ := hb p a
    rw [List.foldl_cons]
    refine ⟨?_, hp.trans hcp, fun q hq => ?_⟩
    · rcases hm with hm | hm
      · rw [hm]
        rcases hc with hc | hc
        · exact .inl hc
        · rw [hc]; exact .inr List.mem_cons_self
      · exact .inr (List.mem_cons_of_mem _ hm)
    · rcases List.mem_cons.mp hq with rfl | hq
      · exact hp.trans hca
      · exact hl q hq

/-- The word of a position below `2^31` reads back as that position. -/
theorem toInt_ofNat (k : ℕ) (hk : k < 2 ^ 31) : (BitVec.ofNat 32 k).toInt = (k : ℤ) := by
  rw [BitVec.toInt_eq_toNat_of_lt (by rw [BitVec.toNat_ofNat]; omega), BitVec.toNat_ofNat]
  omega

/-- A pair that is `(⊤, 0)` or one of the pairs (value, position) of a family, and comes no later than any pair of the
    family, holds the first least position. -/
theorem isFirstMin_of_pairs {n : ℕ} (hn : 0 < n) (hn' : n ≤ 2 ^ 31) (f : Fin n → EReal) (r : EReal × BitVec 32)
    (hm : r = (⊤, 0#32) ∨ ∃ k, r = (f k, BitVec.ofNat 32 k.val))
    (hl : ∀ k : Fin n, PairLE r (f k, BitVec.ofNat 32 k.val)) :
    ∃ k, IsFirstMin f k ∧ r.2 = BitVec.ofNat 32 k.val := by
  have hfrom : ∀ k : Fin n, r = (f k, BitVec.ofNat 32 k.val) → IsFirstMin f k := by
    intro k hk
    subst hk
    refine ⟨fun j => ?_, fun j hj => ?_⟩
    · rcases hl j with h | ⟨h, -⟩
      · exact le_of_lt h
      · exact le_of_eq h
    · rcases hl j with h | ⟨-, h⟩
      · exact h
      · have hj' : j.val < k.val := hj
        have h2 : (BitVec.ofNat 32 k.val).toInt ≤ (BitVec.ofNat 32 j.val).toInt := h
        rw [toInt_ofNat _ (lt_of_lt_of_le k.isLt hn'), toInt_ofNat _ (lt_of_lt_of_le j.isLt hn')] at h2
        omega
  rcases hm with hm | ⟨k, hk⟩
  · subst hm
    have htop : f ⟨0, hn⟩ = ⊤ := by
      rcases hl ⟨0, hn⟩ with h | ⟨h, -⟩
      · exact absurd h (not_lt.mpr le_top)
      · exact h.symm
    exact ⟨⟨0, hn⟩, hfrom ⟨0, hn⟩ (by rw [htop]), rfl⟩
  · exact ⟨k, hfrom k hk, by rw [hk]⟩

/-! ## Distances that differ by a shift and a positive factor have the same order -/

/-- Adding one real number keeps the order of two extended reals. -/
theorem coe_add_le_iff (r : ℝ) (a b : EReal) : (r : EReal) + a ≤ r + b ↔ a ≤ b := by
  constructor
  · intro h
    have := add_le_add_right h (((-r : ℝ)) : EReal)
    have key : ∀ c : EReal, ((-r : ℝ) : EReal) + (r + c) = c := by
      intro c
      rw [← add_assoc, ← EReal.coe_add, neg_add_cancel, EReal.coe_zero, zero_add]
    rwa [key, key] at this
  · exact fun h => add_le_add_right h _

/-- Half a quantity less another, doubled, is the quantity less twice the other: at every extended real. -/
theorem two_mul_half_sub (q c : EReal) :
    ((2 : ℝ) : EReal) * (((1 / 2 : ℝ) : EReal) * q - c) = q - ((2 : ℝ) : EReal) * c := by
  have htop : ((2 : ℝ) : EReal) * ⊤ = ⊤ := EReal.coe_mul_top_of_pos (by norm_num)
  have hbot : ((2 : ℝ) : EReal) * ⊥ = ⊥ := EReal.coe_mul_bot_of_pos (by norm_num)
  have htop' : ((1 / 2 : ℝ) : EReal) * ⊤ = ⊤ := EReal.coe_mul_top_of_pos (by norm_num)
  have hbot' : ((1 / 2 : ℝ) : EReal) * ⊥ = ⊥ := EReal.coe_mul_bot_of_pos (by norm_num)
  induction q using EReal.rec with
  | bot => rw [hbot', EReal.bot_sub, EReal.bot_sub, hbot]
  | top =>
    induction c using EReal.rec with
    | bot => rw [htop', hbot, EReal.top_sub_bot, htop]
    | top => rw [htop', htop, EReal.sub_top, hbot]
    | coe c => rw [htop', ← EReal.coe_mul, EReal.top_sub_coe, EReal.top_sub_coe, htop]
  | coe q =>
    induction c using EReal.rec with
    | bot => rw [← EReal.coe_mul, hbot, EReal.coe_sub_bot, EReal.coe_sub_bot, htop]
    | top => rw [htop, EReal.sub_top, EReal.sub_top, hbot]
    | coe c =>
      norm_cast
      ring

/-- Twice a quantity keeps the order of two extended reals. -/
theorem two_mul_le_iff (a b : EReal) : ((2 : ℝ) : EReal) * a ≤ ((2 : ℝ) : EReal) * b ↔ a ≤ b := by
  have key : ∀ c : EReal, ((1 / 2 : ℝ) : EReal) * (((2 : ℝ) : EReal) * c) = c := by
    intro c
    rw [← mul_assoc, ← EReal.coe_mul]
    norm_num
  have hpos : ∀ r : ℝ, 0 ≤ r → ∀ x y : EReal, x ≤ y → (r : EReal) * x ≤ r * y := fun r hr x y h =>
    mul_le_mul_of_nonneg_left h (EReal.coe_nonneg.mpr hr)
  refine ⟨fun h => ?_, hpos 2 (by norm_num) a b⟩
  have := hpos (1 / 2) (by norm_num) _ _ h
  rwa [key, key] at this

end Cert.Proof

end
-- ==== Proof.Block.lean ====
/-
  What the kernel's body computes from one block of rows, as pure values: the position it returns for one head
  (`headPos`), the row of half squared norms it keeps for one head (`halfNorms`), and that the block it stores holds, in
  column h, head h's positions. Then both read element by element at the ideal values.
-/
module

public import proofs.«01_k».proof.Proof.Gen.KernelIdeal.Skeleton
public import proofs.«01_k».proof.Proof.FirstMin
public import Idealize.ShloMosaic.Lib.ValueIdx
public import Idealize.ShloMosaic.Lib.MatmulPlain
public import Idealize.ShloMosaic.Lib.Pipeline.Value

@[expose] public section

noncomputable section

namespace Cert.Proof.Ker

open Cert.KernelIdeal
open Cert.KernelIdeal.Gen (k0_pay1 k0_pay2 k0_pay11 k0_pay12 k0_pay13 k0_pay14 k0_pay15 k0_pay16 k0_pay17 k0_pay18 k0_pay19
  k0_pay20)
open Cert.KernelIdeal.Facts₀ Cert.KernelIdeal.Facts
open Idealize.ShloMosaic Idealize.ShloMosaic.ValueIdx
open scoped BigOperators

section AnyInstance

variable {F : FTy → Type} [FloatOps F]

/-- One head's distances up to the row's own norm, halved: each mean's half squared norm less its product with the row. -/
def headDist (X : FVec F S2048x32 .f32) (M : FVec F S32x1024 .f32) (S : FVec F S1x1024 .f32) : FVec F S2048x1024 .f32 :=
  subf (broadcastTo S2048x1024 S broadcasts_S1x1024_S2048x1024)
    (matmul dot_S2048x32_S32x1024_S2048x1024_1_0_0_1_n_n none (shapeCast S2048x32 X shapeCasts_S2048x32_S2048x32)
      (shapeCast S32x1024 M shapeCasts_S32x1024_S32x1024) (constant S2048x1024 .f32 0x00000000#32))

/-- Each row's least entry. -/
def rowMin (D : FVec F S2048x1024 .f32) : FVec F S2048 .f32 :=
  multiReduction .minimumf [1] S2048 D 0x7F800000#32 reduces_S2048x1024_S2048 (.inl rfl) rfl

/-- Each entry's position in its row where the entry is the row's least, and 1024 elsewhere. -/
def marks (D : FVec F S2048x1024 .f32) : FVec F S2048x1024 .f32 :=
  select (cmpf .oeq D (broadcastTo S2048x1024 (shapeCast S2048x1 (rowMin D) shapeCasts_S2048_S2048x1)
      broadcasts_S2048x1_S2048x1024))
    (sitofp .f32 (iota .tc S2048x1024 32 [1] iota_S2048x1024_d1_w32))
    (broadcast S2048x1024 (Scalar.ofBits .f32 0x44800000#32))

/-- One head's positions: the least mark of each row, as an integer. -/
def headPos (X : FVec F S2048x32 .f32) (M : FVec F S32x1024 .f32) (S : FVec F S1x1024 .f32) : IVec S2048 32 :=
  fptosi 32 (rowMin (marks (headDist X M S)))

/-- One head's half squared norms, a row. -/
def halfNorms (M : FVec F S32x1024 .f32) : FVec F S1x1024 .f32 := k0_pay2 M

/-- The stored block at row r and column h is head h's position for row r, whatever the heads' operands. -/
theorem block_apply (X : Fin 8 → FVec F S2048x32 .f32) (M : Fin 8 → FVec F S32x1024 .f32) (S : Fin 8 → FVec F S1x1024 .f32)
    (r : Fin 2048) (h : Fin 8) :
    k0_pay1 k0_pay11 (k0_pay12 (X 0) (M 0) (S 0)) (k0_pay14 (k0_pay13 (X 1) (M 1) (S 1)))
        (k0_pay15 k0_pay11 (X 2) (M 2) (S 2)) (k0_pay16 k0_pay11 (X 3) (M 3) (S 3))
        (k0_pay18 k0_pay11 (k0_pay17 (X 4)) (M 4) (S 4)) (k0_pay19 k0_pay11 (X 5) (M 5) (S 5))
        (k0_pay20 (X 6) (M 6) (S 6)) (X 7) (M 7) (S 7) (ix2 r h)
      = headPos (X h) (M h) (S h) (ix1 r) := by
  have e := concatenate_ofFn_unit_apply (t := S2048x8) (s₁ := S2048x1) 1
    (fun h : Fin 8 => shapeCast S2048x1 (headPos (X h) (M h) (S h)) shapeCasts_S2048_S2048x1)
    concatenates_S2048x1_S2048x1_S2048x1_S2048x1_S2048x1_S2048x1_S2048x1_S2048x1_S2048x8_d1 rfl rfl (ix2 r h) h rfl (ix2 r 0)
    (by intro b hb; match b with
      | ⟨0, _⟩ => rfl
      | ⟨1, _⟩ => exact absurd rfl hb)
  refine Eq.trans ?_ (e.trans ?_)
  · rfl
  · refine shapeCast_apply _ _ _ _ ?_
    rw [Shape.rowMajor_val_one, Shape.rowMajor_val_two]
    simp

end AnyInstance

/-! ## At the ideal values -/

/-- Row r's halved distance from mean k: the mean's half squared norm less the inner product. -/
theorem headDist_apply (X : FVec Ideal S2048x32 .f32) (M : FVec Ideal S32x1024 .f32) (S : FVec Ideal S1x1024 .f32)
    (r : Fin 2048) (k : Fin 1024) :
    headDist X M S (ix2 r k) = S (ix2 0 k) - ∑ d : Fin 32, X (ix2 r d) * M (ix2 d k) := by
  unfold headDist
  rw [shapeCast_self, shapeCast_self, subf_apply,
    broadcastTo_apply _ _ (ix2 r k) (ix2 0 k) (by intro a; match a with | ⟨0, _⟩ => rfl | ⟨1, _⟩ => rfl)]
  refine congrArg (S (ix2 0 k) - ·) ?_
  refine (Ideal.matmul_plain_apply none X M (constant S2048x1024 .f32 0x00000000#32) r k).trans ?_
  rw [constant_apply, Ideal.ofBits_zero_f32, zero_add]

/-- A row's least entry as a fold over the row. -/
theorem rowMin_apply (D : FVec Ideal S2048x1024 .f32) (r : Fin 2048) :
    rowMin D (ix1 r) = (Finset.univ : Finset (Fin 1024)).fold min ⊤ fun k => D (ix2 r k) := by
  have hl : ∀ k : Fin 1024, reduces_S2048x1024_S2048.lift (ix1 r) k = ix2 r k := fun k =>
    eq_ix2 (reduces_S2048x1024_S2048.lift (ix1 r) k)
  have hinf : (FloatOps.ofBits .f32 0x7F800000#32 : Ideal .f32) = (⊤ : EReal) := by
    show Ideal.ofBits .f32 0x7F800000#32 = ⊤
    simp [Ideal.ofBits, Ideal.ieee]
  unfold rowMin
  refine ((multiReduction_minimumf_eq_fold _ _ _ _ _ _).trans
    (reduces_S2048x1024_S2048.fold_filter_drop_single _ _ _ _)).trans ?_
  rw [hinf]
  exact congrArg (fun g : Fin 1024 → EReal => Finset.fold min ⊤ g Finset.univ) (funext fun k => congrArg D (hl k))

/-- The f32 word of one half is the real number one half. -/
theorem ofBits_half : Ideal.ofBits .f32 0x3F000000#32 = ((1 / 2 : ℝ) : EReal) := by
  simp [Ideal.ofBits, Ideal.ieee, -EReal.coe_mul]; norm_num

/-- The f32 word of 1024 is the real number 1024. -/
theorem ofBits_far : Ideal.ofBits .f32 0x44800000#32 = ((1024 : ℝ) : EReal) := by
  simp [Ideal.ofBits, Ideal.ieee, -EReal.coe_mul]; norm_num

/-- The mark at k, given the row's least entry. -/
theorem marks_apply (D : FVec Ideal S2048x1024 .f32) (r : Fin 2048) (k : Fin 1024) :
    marks D (ix2 r k) = if D (ix2 r k) = rowMin D (ix1 r) then ((k.val : ℝ) : EReal) else ((1024 : ℝ) : EReal) := by
  unfold marks
  rw [select_apply, cmpf_apply,
    broadcastTo_apply _ _ (ix2 r k) (ix2 r 0) (by intro a; match a with | ⟨0, _⟩ => rfl | ⟨1, _⟩ => rfl),
    shapeCast_apply _ _ (ix2 r 0) (ix1 r) (by rw [Shape.rowMajor_val_one, Shape.rowMajor_val_two]; simp),
    sitofp_apply, iota_single_apply, broadcast_apply]
  have hk : ((BitVec.ofNat 32 k.val).toInt : ℝ) = (k.val : ℝ) := by
    rw [toInt_ofNat k.val (by have := k.isLt; omega)]; norm_cast
  have h1 : (FloatOps.sitofp .f32 (BitVec.ofNat 32 k.val) : Ideal .f32) = ((k.val : ℝ) : EReal) := by
    rw [← hk]; rfl
  by_cases he : D (ix2 r k) = rowMin D (ix1 r)
  · rw [if_pos he]
    simp [Ideal.cmpf_def, Ideal.cmp, he, Scalar.select]
    exact h1
  · rw [if_neg he]
    simp [Ideal.cmpf_def, Ideal.cmp, he, Scalar.select]
    exact ofBits_far

/-- For row r the head's position is the first position of a least `½‖m‖² - ⟨x, m⟩`. -/
theorem headPos_apply (X : FVec Ideal S2048x32 .f32) (M : FVec Ideal S32x1024 .f32) (S : FVec Ideal S1x1024 .f32)
    (r : Fin 2048) (k : Fin 1024)
    (hk : IsFirstMin (fun k : Fin 1024 => S (ix2 0 k) - ∑ d : Fin 32, X (ix2 r d) * M (ix2 d k)) k) :
    headPos X M S (ix1 r) = BitVec.ofNat 32 k.val := by
  have hD : (fun k : Fin 1024 => headDist X M S (ix2 r k))
      = fun k => S (ix2 0 k) - ∑ d : Fin 32, X (ix2 r d) * M (ix2 d k) := funext fun k => headDist_apply X M S r k
  rw [← hD] at hk
  have hmin : rowMin (headDist X M S) (ix1 r) = headDist X M S (ix2 r k) := by
    rw [rowMin_apply]
    exact fold_min_eq _ k hk.1
  have hpos : rowMin (marks (headDist X M S)) (ix1 r) = ((k.val : ℝ) : EReal) := by
    rw [rowMin_apply]
    refine fold_min_positions (fun k => headDist X M S (ix2 r k)) k hk ((1024 : ℝ) : EReal) ?_ _ fun j => ?_
    · exact fun j => by exact_mod_cast j.isLt.le
    · rw [marks_apply, hmin]
  show Ideal.fptosi 32 (rowMin (marks (headDist X M S)) (ix1 r)) = _
  rw [hpos]
  exact fptosi_nat k.val (by have := k.isLt; omega)

/-- The half squared norm of mean k. -/
theorem halfNorms_apply (M : FVec Ideal S32x1024 .f32) (k : Fin 1024) :
    halfNorms M (ix2 0 k) = ((1 / 2 : ℝ) : EReal) * ∑ d : Fin 32, M (ix2 d k) * M (ix2 d k) := by
  have hl : ∀ d : Fin 32, reduces_S32x1024_S1024.lift (ix1 k) d = ix2 d k := fun d =>
    eq_ix2 (reduces_S32x1024_S1024.lift (ix1 k) d)
  unfold halfNorms k0_pay2
  dsimp only
  rw [shapeCast_self, shapeCast_self, mulf_apply, broadcast_apply,
    shapeCast_apply _ _ (ix2 0 k) (ix1 k) (by rw [Shape.rowMajor_val_one, Shape.rowMajor_val_two]; simp)]
  refine congrArg₂ (· * ·) ofBits_half ((Ideal.multiReduction_add_single _ _ _ _ _ _).trans
    (Finset.sum_congr rfl fun (d : Fin 32) _ => ?_))
  exact congrArg (mulf M M) (hl d)

end Cert.Proof.Ker

end
-- ==== Proof.RefRun.lean ====
/-
  The run of the reference program: @main is a straight line of host operations (the distances, then the argmin it calls),
  so its run is the library's `StableHlo.run_seq`. `dist` is the array of distances it reduces, `out` the array of
  positions it returns, both as functions of the two arguments; `run_main` says that every final state holds `out` of the
  arguments' launch contents and the arguments unchanged.
-/
module

public import proofs.«01_k».proof.Proof.Gen.ReferenceIdeal
public import Idealize.ShloMosaic.Lib.StableHlo.Run
public import Idealize.ShloMosaic.Lib.Quiescent

@[expose] public section

noncomputable section

namespace Cert.Proof.Ref

open Cert.ReferenceIdeal
open Cert.ReferenceIdeal.Facts₀ Cert.ReferenceIdeal.Facts
open Idealize.ShloMosaic Idealize.ShloMosaic.TcCoe Idealize.ShloMosaic.StableHlo Idealize.SL.Sem

variable {F : FTy → Type} [FloatOps F]

/-- `x` with its last axis split into eight heads of thirty-two features. -/
def heads (x : FVec F S8x1024x256 .f32) : FVec F S8x1024x8x32 .f32 :=
  fun i => x (Shape.reshapeEquiv shapeCasts_S8x1024x256_S8x1024x8x32 i)

/-- Each row's squared norm, head by head. -/
def xSq (x : FVec F S8x1024x256 .f32) : FVec F S8x1024x8 .f32 :=
  Host.reduceAdd (mulf (heads x) (heads x)) (constant S_ .f32 0x00000000#32) reducesTo_S8x1024x8x32_S8x1024x8_d3 h_S_

/-- Each mean's squared norm. -/
def mSq (mn : FVec F S8x1024x32 .f32) : FVec F S8x1024 .f32 :=
  Host.reduceAdd (mulf mn mn) (constant S_ .f32 0x00000000#32) reducesTo_S8x1024x32_S8x1024_d2 h_S_

/-- The inner products of every mean with every row of its head: indexed by head, mean, batch and row. -/
def cross (x : FVec F S8x1024x256 .f32) (mn : FVec F S8x1024x32 .f32) : FVec F S8x1024x8x1024 .f32 :=
  Host.dotGeneral dot_S8x1024x32_S8x1024x8x32_S8x1024x8x1024_2_3_1_01_0_2 none mn (heads x)

/-- The squared distances, indexed by batch, row, head and mean. -/
def dist (x : FVec F S8x1024x256 .f32) (mn : FVec F S8x1024x32 .f32) : FVec F S8x1024x8x1024 .f32 :=
  addf
    (subf
      (broadcastInDim S8x1024x8x1024 ![0, 1, 2, 3] bcast_S8x1024x8x1_S8x1024x8x1024_0_1_2_3
        (broadcastInDim S8x1024x8x1 ![0, 1, 2] bcast_S8x1024x8_S8x1024x8x1_0_1_2 (xSq x)))
      (mulf (broadcastInDim S8x1024x8x1024 ![] bcast_S_S8x1024x8x1024 (constant S_ .f32 0x40000000#32))
        (transpose S8x1024x8x1024 [2, 3, 0, 1] (cross x mn) transposes_S8x1024x8x1024_S8x1024x8x1024_2_3_0_1)))
    (broadcastInDim S8x1024x8x1024 ![0, 1, 2, 3] bcast_S1x1x8x1024_S8x1024x8x1024_0_1_2_3
      (broadcastInDim S1x1x8x1024 ![2, 3] bcast_S8x1024_S1x1x8x1024_2_3 (mSq mn)))

/-- The positions of the least distances, indexed by batch, row and head. -/
def out (x : FVec F S8x1024x256 .f32) (mn : FVec F S8x1024x32 .f32) : IVec S8x1024x8 32 :=
  fun j => (Host.argReduce reducer_argmin_f32_i32 (dist x mn) (iotaInDim S8x1024x8x1024 32 3)
    (constant S_ .f32 0x7F800000#32) (constantI S_ 32 0#32) reducesTo_S8x1024x8x1024_S8x1024x8_d3 h_S_ j).2

/-- @main's operations, in order, those of the argmin it calls last. -/
abbrev ops : List (HloOp τ sig (Elt F)) :=
  [ reshape main_arg0 main_v0 (rfl : (.f32 : EltTy) = .f32) shapeCasts_S8x1024x256_S8x1024x8x32,
    binary main_v0 main_v0 main_v1 (mulf : (⟨S8x1024x8x32, .f32⟩ : BufTy).Contents (Elt F) → (⟨S8x1024x8x32, .f32⟩ : BufTy).Contents (Elt F) → (⟨S8x1024x8x32, .f32⟩ : BufTy).Contents (Elt F)),
    nullary main_cst (constant S_ .f32 0x00000000#32),
    binary main_v1 main_cst main_v2 (fun x v => Host.reduceAdd x v reducesTo_S8x1024x8x32_S8x1024x8_d3 h_S_),
    unary main_v2 main_v3 (broadcastInDim S8x1024x8x1 ![0, 1, 2] bcast_S8x1024x8_S8x1024x8x1_0_1_2),
    binary main_arg1 main_arg1 main_v4 (mulf : (⟨S8x1024x32, .f32⟩ : BufTy).Contents (Elt F) → (⟨S8x1024x32, .f32⟩ : BufTy).Contents (Elt F) → (⟨S8x1024x32, .f32⟩ : BufTy).Contents (Elt F)),
    nullary main_cst_0 (constant S_ .f32 0x00000000#32),
    binary main_v4 main_cst_0 main_v5 (fun x v => Host.reduceAdd x v reducesTo_S8x1024x32_S8x1024_d2 h_S_),
    unary main_v5 main_v6 (broadcastInDim S1x1x8x1024 ![2, 3] bcast_S8x1024_S1x1x8x1024_2_3),
    binary main_arg1 main_v0 main_v7 (fun l r => Host.dotGeneral dot_S8x1024x32_S8x1024x8x32_S8x1024x8x1024_2_3_1_01_0_2 none l r),
    unary main_v7 main_v8 (transpose S8x1024x8x1024 [2, 3, 0, 1] · transposes_S8x1024x8x1024_S8x1024x8x1024_2_3_0_1),
    nullary main_cst_1 (constant S_ .f32 0x40000000#32),
    unary main_cst_1 main_v9 (broadcastInDim S8x1024x8x1024 ![] bcast_S_S8x1024x8x1024),
    binary main_v9 main_v8 main_v10 (mulf : (⟨S8x1024x8x1024, .f32⟩ : BufTy).Contents (Elt F) → (⟨S8x1024x8x1024, .f32⟩ : BufTy).Contents (Elt F) → (⟨S8x1024x8x1024, .f32⟩ : BufTy).Contents (Elt F)),
    unary main_v3 main_v11 (broadcastInDim S8x1024x8x1024 ![0, 1, 2, 3] bcast_S8x1024x8x1_S8x1024x8x1024_0_1_2_3),
    binary main_v11 main_v10 main_v12 (subf : (⟨S8x1024x8x1024, .f32⟩ : BufTy).Contents (Elt F) → (⟨S8x1024x8x1024, .f32⟩ : BufTy).Contents (Elt F) → (⟨S8x1024x8x1024, .f32⟩ : BufTy).Contents (Elt F)),
    unary main_v6 main_v13 (broadcastInDim S8x1024x8x1024 ![0, 1, 2, 3] bcast_S1x1x8x1024_S8x1024x8x1024_0_1_2_3),
    binary main_v12 main_v13 main_v14 (addf : (⟨S8x1024x8x1024, .f32⟩ : BufTy).Contents (Elt F) → (⟨S8x1024x8x1024, .f32⟩ : BufTy).Contents (Elt F) → (⟨S8x1024x8x1024, .f32⟩ : BufTy).Contents (Elt F)),
    nullary main_call0_v0 (iotaInDim S8x1024x8x1024 32 3),
    nullary main_call0_cst (constant S_ .f32 0x7F800000#32),
    nullary main_call0_c (constantI S_ 32 0#32),
    quaternary main_v14 main_call0_v0 main_call0_cst main_call0_c main_call0_v1_0
      (fun x y u v j => (Host.argReduce reducer_argmin_f32_i32 x y u v reducesTo_S8x1024x8x1024_S8x1024x8_d3 h_S_ j).1),
    quaternary main_v14 main_call0_v0 main_call0_cst main_call0_c main_v15
      (fun x y u v j => (Host.argReduce reducer_argmin_f32_i32 x y u v reducesTo_S8x1024x8x1024_S8x1024x8_d3 h_S_ j).2) ]

/-- @main is that straight line. -/
theorem main_eq (c : Dev nD) : main (F := F) c = seq ops := rfl

/-- After the line the result buffer holds `out` of the arguments, -/
theorem out_eq (V : Valuation τ sig (Elt F)) :
    after ops V (main_v15 : DevRef τ sig) = out (V (main_arg0 : DevRef τ sig)) (V (main_arg1 : DevRef τ sig)) := by
  after_results
  rfl

/-- the first argument keeps what it held, -/
theorem arg0_eq (V : Valuation τ sig (Elt F)) :
    after ops V (main_arg0 : DevRef τ sig) = V (main_arg0 : DevRef τ sig) := by
  after_results
/-- the second argument too. -/
theorem arg1_eq (V : Valuation τ sig (Elt F)) :
    after ops V (main_arg1 : DevRef τ sig) = V (main_arg1 : DevRef τ sig) := by
  after_results

/-- The program scopes no buffer -/
theorem scopedRefs_eq : (Finset.univ.filter fun b : Ref sig .tc => b.isScoped) = ∅ := by decide
/-- and no semaphore. -/
theorem scopedSems_eq : (Finset.univ.filter fun sm : SemLoc sig => sm.isScoped .tc) = ∅ := by decide

/-- Every operation touches references of the TensorCore only. -/
theorem ops_sub : (ops : List (HloOp τ sig (Elt F))).Forall fun op => op.bufs ⊆ tcRefs τ sig :=
  ⟨reshape_bufs_sub .., binary_bufs_sub .., nullary_bufs_sub .., binary_bufs_sub .., unary_bufs_sub ..,
    binary_bufs_sub .., nullary_bufs_sub .., binary_bufs_sub .., unary_bufs_sub .., binary_bufs_sub ..,
    unary_bufs_sub .., nullary_bufs_sub .., unary_bufs_sub .., binary_bufs_sub .., unary_bufs_sub ..,
    binary_bufs_sub .., unary_bufs_sub .., binary_bufs_sub .., nullary_bufs_sub .., nullary_bufs_sub ..,
    nullary_bufs_sub .., quaternary_bufs_sub .., quaternary_bufs_sub ..⟩

/-- Every execution of the reference terminates, with `out` of the arguments in the result buffer and the arguments
    unchanged. -/
theorem run_main (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c.tc : Thread nD τ).loc main_v15)
          = out (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1) :=
  (θ_run defs _ _).mono
    (fun _ h c => ⟨(h c main_v15).trans (out_eq _), (h c main_arg0).trans (arg0_eq _), (h c main_arg1).trans (arg1_eq _)⟩)
    (run_seq scopedRefs_eq scopedSems_eq defs main (fun _ => ops) main_eq (fun _ => ops_sub) m ρ)

/-- The same run read at the arguments, with every semaphore counter at zero: the program declares none. -/
theorem frame (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono (fun r h => ⟨fun c => (h c).2, sem_eq_zero_of_no_sems (by decide) r.2⟩) (run_main m ρ)

end Cert.Proof.Ref

end
-- ==== Proof.RefValue.lean ====
/-
  The reference's result read element by element at the ideal values: the distance of row (b, n) from mean k within head
  h, `‖x‖² - 2·⟨m, x⟩ + ‖m‖²` as sums over the head's thirty-two features, and at (b, n, h) the result is the first
  position of a least such distance.
-/
module

public import proofs.«01_k».proof.Proof.RefRun
public import proofs.«01_k».proof.Proof.FirstMin
public import Idealize.ShloMosaic.Lib.IdealHost
public import Idealize.ShloMosaic.Lib.ValueIdx
public import Idealize.ShloMosaic.Lib.Pipeline.Value

@[expose] public section

noncomputable section

namespace Cert.Proof.Ref

open Cert.ReferenceIdeal
open Cert.ReferenceIdeal.Facts₀ Cert.ReferenceIdeal.Facts
open Idealize.ShloMosaic Idealize.ShloMosaic.ValueIdx
open scoped BigOperators

/-- Feature d of head h among the row's 256 lanes. -/
def lane (h : Fin 8) (d : Fin 32) : Fin 256 := ⟨32 * h.val + d.val, by have := h.isLt; have := d.isLt; omega⟩

/-- The squared norm of row (b, n) within head h. -/
def xNorm (x : FVec Ideal S8x1024x256 .f32) (b : Fin 8) (n : Fin 1024) (h : Fin 8) : EReal :=
  ∑ d : Fin 32, x (ix3 b n (lane h d)) * x (ix3 b n (lane h d))

/-- The squared norm of mean k of head h. -/
def mNorm (mn : FVec Ideal S8x1024x32 .f32) (h : Fin 8) (k : Fin 1024) : EReal :=
  ∑ d : Fin 32, mn (ix3 h k d) * mn (ix3 h k d)

/-- The inner product of row (b, n) with mean k of head h. -/
def inner (x : FVec Ideal S8x1024x256 .f32) (mn : FVec Ideal S8x1024x32 .f32) (b : Fin 8) (n : Fin 1024) (h : Fin 8)
    (k : Fin 1024) : EReal :=
  ∑ d : Fin 32, x (ix3 b n (lane h d)) * mn (ix3 h k d)

/-- Feature d of head h of row (b, n), after x is split by heads, is entry 32·h + d of the row. -/
theorem heads_apply (x : FVec Ideal S8x1024x256 .f32) (b : Fin 8) (n : Fin 1024) (h : Fin 8) (d : Fin 32) :
    heads x (ix4 b n h d) = x (ix3 b n (lane h d)) := by
  unfold heads
  refine congrArg x (Shape.reshapeEquiv_eq_of_rowMajor _ ?_)
  rw [Shape.rowMajor_val_three, Shape.rowMajor_val_four]
  simp [lane]
  ring

/-- The reference's row norms are the sums of squares. -/
theorem xSq_apply (x : FVec Ideal S8x1024x256 .f32) (b : Fin 8) (n : Fin 1024) (h : Fin 8) :
    xSq x (ix3 b n h) = xNorm x b n h := by
  have hr : S8x1024x8x32.Reduces [3] S8x1024x8 := by decide
  unfold xSq
  rw [hostReduceAdd_apply, Ideal.hostReduceAdd_single _ hr]
  rw [constant_apply, Ideal.ofBits_zero_f32, zero_add]
  refine Finset.sum_congr rfl fun (d : Fin 32) _ => ?_
  have e : hr.lift (ix3 b n h) d = ix4 b n h d := eq_ix4 (hr.lift (ix3 b n h) d)
  exact (congrArg (mulf (heads x) (heads x)) e).trans
    (congrArg₂ (· * ·) (heads_apply x b n h d) (heads_apply x b n h d))

/-- The reference's mean norms are the sums of squares. -/
theorem mSq_apply (mn : FVec Ideal S8x1024x32 .f32) (h : Fin 8) (k : Fin 1024) :
    mSq mn (ix2 h k) = mNorm mn h k := by
  have hr : S8x1024x32.Reduces [2] S8x1024 := by decide
  unfold mSq
  rw [hostReduceAdd_apply, Ideal.hostReduceAdd_single _ hr]
  rw [constant_apply, Ideal.ofBits_zero_f32, zero_add]
  refine Finset.sum_congr rfl fun (d : Fin 32) _ => ?_
  have e : hr.lift (ix2 h k) d = ix3 h k d := eq_ix3 (hr.lift (ix2 h k) d)
  exact congrArg (mulf mn mn) e

/-- The reference's products are the inner products of rows and means. -/
theorem cross_apply (x : FVec Ideal S8x1024x256 .f32) (mn : FVec Ideal S8x1024x32 .f32) (b : Fin 8) (n : Fin 1024)
    (h : Fin 8) (k : Fin 1024) : cross x mn (ix4 h k b n) = inner x mn b n h k := by
  unfold cross
  simp only [Host.dotGeneral]
  let D := dot_S8x1024x32_S8x1024x8x32_S8x1024x8x1024_2_3_1_01_0_2
  rw [Ideal.dotGeneral_apply, ← Equiv.sum_comp (contrEquiv1 D 32 rfl rfl).symm]
  refine Finset.sum_congr rfl fun d _ => ?_
  have c3 := contrEquiv1_symm_val D 32 rfl rfl d
  have hl : D.lhsIdx (ix4 h k b n) ((contrEquiv1 D 32 rfl rfl).symm d) = ix3 h k d := by
    funext ax; apply Fin.ext
    match ax with
    | ⟨0, _⟩ => rfl
    | ⟨1, _⟩ => rfl
    | ⟨2, _⟩ => exact c3
  have hrr : D.rhsIdx (ix4 h k b n) ((contrEquiv1 D 32 rfl rfl).symm d) = ix4 b n h d := by
    funext ax; apply Fin.ext
    match ax with
    | ⟨0, _⟩ => rfl
    | ⟨1, _⟩ => rfl
    | ⟨2, _⟩ => rfl
    | ⟨3, _⟩ => exact c3
  rw [hl, hrr, heads_apply, mul_comm]

/-- The f32 word of two is the real number two. -/
theorem ofBits_two : Ideal.ofBits .f32 0x40000000#32 = ((2 : ℝ) : EReal) := by
  simp [Ideal.ofBits, Ideal.ieee, -EReal.coe_mul]; norm_num

/-- The f32 word of positive infinity is the greatest extended real. -/
theorem ofBits_inf : Ideal.ofBits .f32 0x7F800000#32 = (⊤ : EReal) := by
  simp [Ideal.ofBits, Ideal.ieee]

/-- The distance of row (b, n) from mean k within head h. -/
theorem dist_apply (x : FVec Ideal S8x1024x256 .f32) (mn : FVec Ideal S8x1024x32 .f32) (b : Fin 8) (n : Fin 1024)
    (h : Fin 8) (k : Fin 1024) :
    dist x mn (ix4 b n h k) = xNorm x b n h - ((2 : ℝ) : EReal) * inner x mn b n h k + mNorm mn h k := by
  unfold dist
  rw [addf_apply, subf_apply, mulf_apply,
    broadcastInDim_apply _ _ _ (ix4 b n h k) (ix4 b n h 0) (by intro a; fin_cases a <;> rfl),
    broadcastInDim_apply _ _ _ (ix4 b n h (0 : Fin 1)) (ix3 b n h) (by intro a; fin_cases a <;> rfl),
    broadcastInDim_scalar_apply,
    transpose_apply _ _ _ (ix4 b n h k) (ix4 h k b n) (by intro a; fin_cases a <;> rfl),
    broadcastInDim_apply _ _ _ (ix4 b n h k) (ix4 0 0 h k) (by intro a; fin_cases a <;> rfl),
    broadcastInDim_apply _ _ _ (ix4 (0 : Fin 1) (0 : Fin 1) h k) (ix2 h k) (by intro a; fin_cases a <;> rfl),
    xSq_apply, cross_apply, mSq_apply, constant_apply, ofBits_two]

/-- The reduction's body returns one of its two pairs, no later than either. -/
theorem isPairMin_reducer : IsPairMin (reducer_argmin_f32_i32 (F := Ideal)) := by
  rintro ⟨a, p⟩ ⟨b, q⟩
  have e : reducer_argmin_f32_i32 (F := Ideal) (a, p) (b, q)
      = if a < b ∨ (a = b ∧ p.toInt < q.toInt) then (a, p) else (b, q) := by
    rcases lt_trichotomy a b with hab | hab | hab
    · simp [reducer_argmin_f32_i32, Ideal.cmpf_def, Ideal.cmp, hab, hab.ne, IntOp.ori, IntOp.andi, Scalar.select]
    · subst hab
      by_cases hpq : p.toInt < q.toInt <;>
      simp [reducer_argmin_f32_i32, Ideal.cmpf_def, Ideal.cmp, IntOp.ori, IntOp.andi, IntOp.cmpi, BitVec.slt, hpq, Scalar.select]
    · simp [reducer_argmin_f32_i32, Ideal.cmpf_def, Ideal.cmp, hab.not_gt, hab.ne', IntOp.ori, IntOp.andi, Scalar.select]
  rw [e]
  split_ifs with hc
  · refine ⟨.inl rfl, .refl _, ?_⟩
    rcases hc with hc | ⟨hc, hpq⟩
    · exact .inl hc
    · exact .inr ⟨hc, hpq.le⟩
  · refine ⟨.inr rfl, ?_, .refl _⟩
    rw [not_or, not_and, not_lt, not_lt] at hc
    rcases hc.1.lt_or_eq with hlt | heq
    · exact .inl hlt
    · exact .inr ⟨heq, hc.2 heq.symm⟩

/-- A float argmin over one axis, its positions counted along that axis from zero and its starting pair `(⊤, 0)`, gives
    the first position of a least value. -/
theorem argReduce_first {s t u : Shape} {a : Fin s.rank} (f : EReal × BitVec 32 → EReal × BitVec 32 → EReal × BitVec 32)
    (hf : IsPairMin f) (x : FVec Ideal s .f32) (ix : FVec Ideal u .f32) (iy : u.Idx → BitVec 32) (h' : s.ReducesTo [a] t)
    (h : s.Reduces [a] t) (hu : 0 < u.numel) (hix : ix (Shape.Idx.first hu) = (⊤ : EReal))
    (hiy : iy (Shape.Idx.first hu) = 0#32) (hn : 0 < s.size a) (hn' : s.size a ≤ 2 ^ 31) (o : IVec t 32)
    (ho : o = fun j => (Host.argReduce f x (iotaInDim s 32 a) ix iy h' hu j).2) (j : t.Idx) :
    ∃ k : Fin (s.size a), IsFirstMin (fun k => x (h.lift j k)) k ∧ o j = BitVec.ofNat 32 k.val := by
  have hlast : ∀ k : Fin (s.size a), h.lift j k a = k := fun k => Fin.ext (by
    rw [h.lift_val]; simp [Shape.Reduces.liftVal])
  subst ho
  beta_reduce
  rw [Ideal.argReduce_eq_reduce2, Host.reduce2_eq_foldl_fiber, hix, hiy]
  obtain ⟨hm, -, hl⟩ := argmin_foldl hf (Host.argReduceFiber x (iotaInDim s 32 a) h' j) (⊤, 0#32)
  refine isFirstMin_of_pairs hn hn' (fun k => x (h.lift j k)) _ (hm.imp id fun hm => ?_) fun k => hl _ ?_
  · obtain ⟨p, hp, he⟩ := List.mem_map.1 hm
    have hd : h.drop (s.rowMajor.symm p) = j := of_decide_eq_true (List.mem_filter.1 hp).2
    refine ⟨s.rowMajor.symm p a, ?_⟩
    rw [← he]
    beta_reduce
    rw [← hd, h.lift_drop]
    rfl
  · refine List.mem_map.2 ⟨s.rowMajor (h.lift j k), List.mem_filter.2 ⟨List.mem_finRange _, ?_⟩, ?_⟩
    · rw [Equiv.symm_apply_apply]
      exact decide_eq_true (h.drop_lift j k)
    · rw [Equiv.symm_apply_apply, iotaInDim_apply, hlast]

/-- The reduced axis has a position, -/
theorem means_pos : 0 < S8x1024x8x1024.size 3 := show 0 < 1024 by norm_num
/-- and at most `2^31` of them. -/
theorem means_le : S8x1024x8x1024.size 3 ≤ 2 ^ 31 := show 1024 ≤ 2 ^ 31 by norm_num

/-- At (b, n, h) the reference returns the first position of a least distance. -/
theorem out_apply (x : FVec Ideal S8x1024x256 .f32) (mn : FVec Ideal S8x1024x32 .f32) (b : Fin 8) (n : Fin 1024)
    (h : Fin 8) :
    ∃ k : Fin 1024, IsFirstMin (fun k => dist x mn (ix4 b n h k)) k ∧ out x mn (ix3 b n h) = BitVec.ofNat 32 k.val := by
  have hr : S8x1024x8x1024.Reduces [3] S8x1024x8 := by decide
  have hlift : ∀ k : Fin 1024, hr.lift (ix3 b n h) k = ix4 b n h k := fun k => eq_ix4 (hr.lift (ix3 b n h) k)
  have hd : (fun k : Fin 1024 => dist x mn (hr.lift (ix3 b n h) k)) = fun k => dist x mn (ix4 b n h k) :=
    funext fun k => congrArg (dist x mn) (hlift k)
  have hout := argReduce_first (reducer_argmin_f32_i32 (F := Ideal)) isPairMin_reducer (dist x mn)
    (constant (F := Ideal) S_ .f32 0x7F800000#32) (constantI S_ 32 0#32) reducesTo_S8x1024x8x1024_S8x1024x8_d3 hr h_S_
    ofBits_inf rfl means_pos means_le (out x mn) rfl (ix3 b n h)
  obtain ⟨k, hk, e⟩ := hout
  have hk' : IsFirstMin (fun k : Fin 1024 => dist x mn (hr.lift (ix3 b n h) k)) k := hk
  rw [hd] at hk'
  exact ⟨k, hk', e⟩

end Cert.Proof.Ref

end
-- ==== Proof.Body.lean ====
/-
  What the kernel's body leaves at one point of the grid. The first point computes the half squared norms of all means
  and keeps them; every point stores the block of positions. Both are stated as pure values of the point's operands, at
  any float instance.
-/
module

public import proofs.«01_k».proof.Proof.Block
public import proofs.«01_k».proof.Proof.RefValue
public import proofs.«01_k».proof.Proof.Gen.KernelIdeal.Frame
public import Idealize.ShloMosaic.Lib.WholeRead

@[expose] public section

noncomputable section

namespace Cert.Proof.Ker

open Cert.KernelIdeal
open Cert.KernelIdeal.Gen (kernelRun0_A kernelRun0_B out0_A_2 out0_B_2 sout0_A_0 scover0_A_0 cond0_0)
open Cert.Proof.Ref (lane)
open Idealize.ShloMosaic Idealize.ShloMosaic.ValueIdx

variable {F : FTy → Type} [FloatOps F]

/-- Head h's 32 columns of a block of rows. -/
def xPart (x : FVec F S2048x256 .f32) (h : Fin 8) : FVec F S2048x32 .f32 := fun j => x (ix2 (j 0) (lane h (j 1)))

/-- Head h's 32 rows of the means laid out as 256 rows. -/
def mPart (mn : FVec F S256x1024 .f32) (h : Fin 8) : FVec F S32x1024 .f32 := fun j => mn (ix2 (lane h (j 0)) (j 1))

/-- Row h of the kept half squared norms. -/
def sPart (s : FVec F S8x1024 .f32) (h : Fin 8) : FVec F S1x1024 .f32 := fun j => s (ix2 h (j 1))

/-- The kept half squared norms: row h is head h's. -/
def allNorms (mn : FVec F S256x1024 .f32) : FVec F S8x1024 .f32 := fun y => halfNorms (mPart mn (y 0)) (ix2 0 (y 1))

/-- The stored block, over given half squared norms: column h is head h's positions. -/
def block (x : FVec F S2048x256 .f32) (mn : FVec F S256x1024 .f32) (s : FVec F S8x1024 .f32) : IVec S2048x8 32 :=
  fun y => headPos (xPart x (y 1)) (mPart mn (y 1)) (sPart s (y 1)) (ix1 (y 0))

/-- Two blocks of positions agreeing at every row and column are the same. -/
theorem ext_ix2 {f g : IVec S2048x8 32} (e : ∀ (r : Fin 2048) (h : Fin 8), f (ix2 r h) = g (ix2 r h)) : f = g :=
  funext fun y => by
    obtain ⟨r, h, rfl⟩ : ∃ (r : Fin 2048) (h : Fin 8), y = ix2 r h := ⟨y 0, y 1, eq_ix2 y⟩
    exact e r h

/-! ## The rectangles the body loads -/

/-- Head h's columns lie inside the block of rows. -/
theorem inb_x (h : Fin 8) : ∀ a, (![0, 32 * h.val] : Fin 2 → ℕ) a + S2048x32.size a ≤ S2048x256.size a := by
  intro a
  match a with
  | ⟨0, _⟩ => show 0 + 2048 ≤ 2048; omega
  | ⟨1, _⟩ => show 32 * h.val + 32 ≤ 256; omega

/-- Head h's rows lie inside the means. -/
theorem inb_m (h : Fin 8) : ∀ a, (![32 * h.val, 0] : Fin 2 → ℕ) a + S32x1024.size a ≤ S256x1024.size a := by
  intro a
  match a with
  | ⟨0, _⟩ => show 32 * h.val + 32 ≤ 256; omega
  | ⟨1, _⟩ => show 0 + 1024 ≤ 1024; omega

/-- Row h lies inside the kept norms. -/
theorem inb_s (h : Fin 8) : ∀ a, (![h.val, 0] : Fin 2 → ℕ) a + S1x1024.size a ≤ S8x1024.size a := by
  intro a
  match a with
  | ⟨0, _⟩ => show h.val + 1 ≤ 8; omega
  | ⟨1, _⟩ => show 0 + 1024 ≤ 1024; omega

/-- Head h's columns of the block of rows. -/
abbrev xRect (h : Fin 8) : Rect S2048x256 := Rect.unit ![0, 32 * h.val] S2048x32.size (inb_x h)

/-- Head h's rows of the means. -/
abbrev mRect (h : Fin 8) : Rect S256x1024 := Rect.unit ![32 * h.val, 0] S32x1024.size (inb_m h)

/-- Row h of the kept norms. -/
abbrev sRect (h : Fin 8) : Rect S8x1024 := Rect.unit ![h.val, 0] S1x1024.size (inb_s h)

/-- Where entry j of head h's columns lies in the block of rows. -/
theorem xRect_idx (h : Fin 8) (j : S2048x32.Idx) : (xRect h).toLoadRect.idx j = ix2 (j 0) (lane h (j 1)) := by
  refine (eq_ix2 _).trans (congrArg₂ ix2 (Fin.ext ?_) (Fin.ext ?_))
  · show 0 + 1 * (j 0).val = (j 0).val; omega
  · show 32 * h.val + 1 * (j 1).val = 32 * h.val + (j 1).val; omega

/-- Where entry j of head h's means lies in the means. -/
theorem mRect_idx (h : Fin 8) (j : S32x1024.Idx) : (mRect h).toLoadRect.idx j = ix2 (lane h (j 0)) (j 1) := by
  refine (eq_ix2 _).trans (congrArg₂ ix2 (Fin.ext ?_) (Fin.ext ?_))
  · show 32 * h.val + 1 * (j 0).val = 32 * h.val + (j 0).val; omega
  · show 0 + 1 * (j 1).val = (j 1).val; omega

/-- Where entry j of row h lies in the kept norms. -/
theorem sRect_idx (h : Fin 8) (j : S1x1024.Idx) : (sRect h).toLoadRect.idx j = ix2 h (j 1) := by
  refine (eq_ix2 _).trans (congrArg₂ ix2 (Fin.ext ?_) (Fin.ext ?_))
  · have h0 : (j 0).val < 1 := (j 0).isLt
    show h.val + 1 * (j 0).val = h.val; omega
  · show 0 + 1 * (j 1).val = (j 1).val; omega

section Loads

variable (arg1 : Memref sig .tc .vmem S2048x256 .f32) (harg1 : arg1.IsWhole)
  (arg2 : Memref sig .tc .vmem S256x1024 .f32) (harg2 : arg2.IsWhole)
  (arg3 : Memref sig .tc .vmem S2048x8 .i32) (harg3 : arg3.IsWhole)
  (arg4 : Memref sig .tc .vmem S8x1024 .f32) (harg4 : arg4.IsWhole)

/-- The load of head h's columns. -/
theorem load_x (x : FVec F S2048x256 .f32) (h : Fin 8) :
    View.readAt (Elt F) arg1.view (xRect h).toLoadRect (harg1.unread x) = xPart x h :=
  funext fun j => (harg1.readAt_unread (Val := Elt F) x _ j).trans (congrArg x (xRect_idx h j))

/-- The load of head h's means. -/
theorem load_m (mn : FVec F S256x1024 .f32) (h : Fin 8) :
    View.readAt (Elt F) arg2.view (mRect h).toLoadRect (harg2.unread mn) = mPart mn h :=
  funext fun j => (harg2.readAt_unread (Val := Elt F) mn _ j).trans (congrArg mn (mRect_idx h j))

/-- The load of head h's kept norms. -/
theorem load_s (s : FVec F S8x1024 .f32) (h : Fin 8) :
    View.readAt (Elt F) arg4.view (sRect h).toLoadRect (harg4.unread s) = sPart s h :=
  funext fun j => (harg4.readAt_unread (Val := Elt F) s _ j).trans (congrArg s (sRect_idx h j))

variable (c : Dev nD) (i : grid0.Coords) (x : Vec F S2048x256 .f32) (mn : Vec F S256x1024 .f32)

/-! ## The first point -/

/-- The first point's stores into the scratch leave the half squared norms. -/
theorem canon_norms (hc : cond0_0 i) :
    View.canon (kernelRun0_A c i arg1 harg1 arg2 harg2 arg3 harg3 arg4 harg4 hc x mn).2.1 = allNorms mn := by
  have hL : (kernelRun0_A c i arg1 harg1 arg2 harg2 arg3 harg3 arg4 harg4 hc x mn).2.1
      = (List.finRange 8).reverse.map fun h : Fin 8 => (⟨sRect h,
          halfNorms (View.readAt (Elt F) arg2.view (mRect h).toLoadRect (harg2.unread mn))⟩ : View.Piece (Elt F) S8x1024 .f32) :=
    rfl
  funext y
  refine View.canon_apply_of_pieces (allNorms mn) _ ?_ y
    (scover0_A_0 c i arg1 harg1 arg2 harg2 arg3 harg3 arg4 harg4 hc x mn y)
  rw [hL]
  intro p hp
  obtain ⟨h, -, rfl⟩ := List.mem_map.mp hp
  intro j
  show halfNorms (View.readAt (Elt F) arg2.view (mRect h).toLoadRect (harg2.unread mn)) j
    = allNorms mn ((sRect h).toLoadRect.idx j)
  rw [load_m, sRect_idx]
  refine congrArg (halfNorms (mPart mn h)) ((eq_ix2 j).trans (congrArg₂ ix2 (Fin.ext ?_) rfl))
  have h0 : (j 0).val < 1 := (j 0).isLt
  show (j 0).val = 0
  omega

/-- What the first point leaves in the scratch. -/
theorem scratch_first (hc : cond0_0 i) :
    sout0_A_0 c i arg1 harg1 arg2 harg2 arg3 harg3 arg4 harg4 hc x mn = allNorms mn :=
  (View.read_writes_junk_eq_canon _ _).trans (canon_norms arg1 harg1 arg2 harg2 arg3 harg3 arg4 harg4 c i x mn hc)

/-- What the first point stores in the block of positions. -/
theorem block_first (hc : cond0_0 i) :
    out0_A_2 c i arg1 harg1 arg2 harg2 arg3 harg3 arg4 harg4 hc x mn = block x mn (allNorms mn) := by
  refine (View.read_writes_junk_eq_canon _ _).trans ((View.canon_unit_zero (S := S2048x8) (off := ![0, 0]) (by decide) _ _).trans ?_)
  refine ext_ix2 fun r h => ?_
  have e := block_apply (fun h => View.readAt (Elt F) arg1.view (xRect h).toLoadRect (harg1.unread x))
    (fun h => View.readAt (Elt F) arg2.view (mRect h).toLoadRect (harg2.unread mn))
    (fun h => arg4.view.readCov (kernelRun0_A c i arg1 harg1 arg2 harg2 arg3 harg3 arg4 harg4 hc x mn).2.1
      (sRect h).toLoadRect) r h
  refine e.trans ?_
  have hs : arg4.view.readCov (kernelRun0_A c i arg1 harg1 arg2 harg2 arg3 harg3 arg4 harg4 hc x mn).2.1
      (sRect h).toLoadRect = sPart (allNorms mn) h := by
    rw [View.readCov_eq_canon', canon_norms]
    exact funext fun j => congrArg (allNorms mn) (sRect_idx h j)
  rw [load_x, load_m, hs]
  rfl

/-! ## A later point -/

/-- What a later point stores in the block of positions, over the norms the scratch holds. -/
theorem block_later (hc : ¬cond0_0 i) (s : Vec F S8x1024 .f32) :
    out0_B_2 c i arg1 harg1 arg2 harg2 arg3 harg3 arg4 harg4 hc x mn s = block x mn s := by
  refine (View.read_writes_junk_eq_canon _ _).trans ((View.canon_unit_zero (S := S2048x8) (off := ![0, 0]) (by decide) _ _).trans ?_)
  refine ext_ix2 fun r h => ?_
  have e := block_apply (fun h => View.readAt (Elt F) arg1.view (xRect h).toLoadRect (harg1.unread x))
    (fun h => View.readAt (Elt F) arg2.view (mRect h).toLoadRect (harg2.unread mn))
    (fun h => View.readAt (Elt F) arg4.view (sRect h).toLoadRect (harg4.unread s)) r h
  refine e.trans ?_
  rw [load_x, load_m, load_s]
  rfl

end Loads

end Cert.Proof.Ker

end
-- ==== Proof.KernelRun.lean ====
/-
  The kernel's run, read. The grid's four points each store one block of 2048 rows of positions over the same means and
  the half squared norms the first point kept, so the result array holds every row's positions; the program then gives it
  its three axes. At any float instance.
-/
module

public import proofs.«01_k».proof.Proof.Body

@[expose] public section

noncomputable section

namespace Cert.Proof.Ker

open Cert.KernelIdeal
open Cert.KernelIdeal.Facts₀ Cert.KernelIdeal.Facts
open Cert.KernelIdeal.Gen (iblk V V0 outsAt0 outsAt0_A outsAt0_B dats N_0 after0_2 A_eq run_main hostOps1 flush0_2)
open Cert.Proof.Ref (lane)
open Idealize.ShloMosaic Idealize.ShloMosaic.TcCoe Idealize.ShloMosaic.ValueIdx Idealize.SL.Sem
open Idealize.ShloMosaic.Pipeline (Dat)

variable {F : FTy → Type} [FloatOps F]
variable (m : (ℓ : Loc nD τ sig) → Buf (Elt F) ℓ) (ρ : Dev nD → PrngReg)

/-- Row r of block q of the 8192 rows. -/
def rowAt (q : Fin 4) (r : Fin 2048) : Fin 8192 := ⟨2048 * q.val + r.val, by have := q.isLt; have := r.isLt; omega⟩

/-- A grid point's number. -/
def pt (t : Fin cfg0.N) : Fin 4 := ⟨t.val, lt_of_lt_of_eq t.isLt N_0⟩

/-- Block q of the rows. -/
def xBlk (x : FVec F S8192x256 .f32) (q : Fin 4) : FVec F S2048x256 .f32 := fun y => x (ix2 (rowAt q (y 0)) (y 1))

/-- All positions, as 8192 rows of 8 heads. -/
def positions (x : FVec F S8192x256 .f32) (mn : FVec F S256x1024 .f32) : IVec S8192x8 32 := fun i =>
  block (xBlk x ⟨(i 0).val / 2048, by have h : (i 0).val < 8192 := (i 0).isLt; omega⟩) mn (allNorms mn)
    (ix2 ⟨(i 0).val % 2048, Nat.mod_lt _ (by decide)⟩ (i 1))

/-- Row r of block q of all positions is row r of that block's positions. -/
theorem positions_apply (x : FVec F S8192x256 .f32) (mn : FVec F S256x1024 .f32) (q : Fin 4) (r : Fin 2048) (h : Fin 8) :
    positions x mn (ix2 (rowAt q r) h) = block (xBlk x q) mn (allNorms mn) (ix2 r h) := by
  have hr := r.isLt
  have e1 : (⟨(rowAt q r).val / 2048, by have h : (rowAt q r).val < 8192 := (rowAt q r).isLt; omega⟩ : Fin 4) = q :=
    Fin.ext (show (2048 * q.val + r.val) / 2048 = q.val by omega)
  have e2 : (⟨(rowAt q r).val % 2048, Nat.mod_lt _ (by decide)⟩ : Fin 2048) = r :=
    Fin.ext (show (2048 * q.val + r.val) % 2048 = r.val by omega)
  show block (xBlk x ⟨(rowAt q r).val / 2048, _⟩) mn (allNorms mn) (ix2 ⟨(rowAt q r).val % 2048, _⟩ h) = _
  rw [e1, e2]

/-! ## The operands of a point -/

/-- The blocks the index maps name, over the four points: point t takes block t of the rows, -/
theorem index_0 : ∀ t : Fin cfg0.N, win0_0.index t (0 : Fin 2) = t.val ∧ win0_0.index t (1 : Fin 2) = 0 :=
  (by decide +kernel : ∀ t : Fin grid0.N, _)
/-- every point takes the one block of the means, -/
theorem index_1 : ∀ t : Fin cfg0.N, win0_1.index t (0 : Fin 2) = 0 ∧ win0_1.index t (1 : Fin 2) = 0 :=
  (by decide +kernel : ∀ t : Fin grid0.N, _)
/-- and point t stores block t of the positions. -/
theorem index_2 : ∀ t : Fin cfg0.N, win0_2.index t (0 : Fin 2) = t.val ∧ win0_2.index t (1 : Fin 2) = 0 :=
  (by decide +kernel : ∀ t : Fin grid0.N, _)

/-- Point t's rows are block t. -/
theorem rows_at (c : Dev nD) (t : Fin cfg0.N) : iblk m c 0 t = xBlk (V m c main_v0) (pt t) := by
  funext y
  obtain ⟨e0, e1⟩ := index_0 t
  have h0 : (((cfg0.win 0).blk t).view.emb y 0).val = win0_0.index t (0 : Fin 2) * 2048 + 1 * (y 0).val := rfl
  have h1 : (((cfg0.win 0).blk t).view.emb y 1).val = win0_0.index t (1 : Fin 2) * 256 + 1 * (y 1).val := rfl
  show V m c main_v0 (((cfg0.win 0).blk t).view.emb y) = V m c main_v0 (ix2 (rowAt (pt t) (y 0)) (y 1))
  refine congrArg (V m c main_v0) ((eq_ix2 _).trans (congrArg₂ ix2 (Fin.ext ?_) (Fin.ext ?_)))
  · refine h0.trans ?_
    show _ = 2048 * t.val + (y 0).val
    rw [e0]; omega
  · refine h1.trans ?_
    rw [e1]; omega

/-- Every point's means are all of them. -/
theorem means_at (c : Dev nD) (t : Fin cfg0.N) : iblk m c 1 t = V m c main_v2 := by
  funext y
  obtain ⟨e0, e1⟩ := index_1 t
  have h0 : (((cfg0.win 1).blk t).view.emb y 0).val = win0_1.index t (0 : Fin 2) * 256 + 1 * (y 0).val := rfl
  have h1 : (((cfg0.win 1).blk t).view.emb y 1).val = win0_1.index t (1 : Fin 2) * 1024 + 1 * (y 1).val := rfl
  show V m c main_v2 (((cfg0.win 1).blk t).view.emb y) = V m c main_v2 y
  refine congrArg (V m c main_v2) (funext fun a => Fin.ext ?_)
  match a with
  | ⟨0, _⟩ => refine h0.trans ?_; rw [e0]; show 0 * 2048 / 8 + 1 * (y 0).val = (y 0).val; omega
  | ⟨1, _⟩ => refine h1.trans ?_; rw [e1]; show 0 * 1024 + 1 * (y 1).val = (y 1).val; omega

/-! ## What the points leave -/

/-- After every point the scratch holds the half squared norms. -/
theorem scratch_at (c : Dev nD) : ∀ (n : ℕ) (hn : n < cfg0.N), (outsAt0 m c n hn).2 = allNorms (V m c main_v2)
  | 0, hn => by
    rw [outsAt0_A m c ⟨0, hn⟩ rfl]
    dsimp only
    rw [scratch_first, means_at]
  | n + 1, hn => by
    have hN := lt_of_lt_of_eq hn N_0
    rw [outsAt0_B m c ⟨n + 1, hn⟩ (show ¬(n + 1) % 4 = 0 by omega)]
    exact scratch_at c n (Nat.lt_of_succ_lt hn)

/-- After point t the block of positions is that of block t's rows. -/
theorem block_at (c : Dev nD) (t : Fin cfg0.N) : (outsAt0 m c t.val t.isLt).1
    = block (xBlk (V m c main_v0) (pt t)) (V m c main_v2) (allNorms (V m c main_v2)) := by
  by_cases h0 : t.val % 4 = 0
  · rw [outsAt0_A m c t h0]
    dsimp only
    rw [block_first, rows_at, means_at]
  · rw [outsAt0_B m c t h0]
    dsimp only
    rw [block_later, rows_at, means_at, scratch_at]

/-! ## The result array -/

/-- Where the entries of point t's block lie in the result array. -/
theorem emb_2 (t : Fin cfg0.N) (y : S2048x8.Idx) :
    ((cfg0.win 2).blk t).view.emb y = ix2 (rowAt (pt t) (y 0)) (y 1) := by
  obtain ⟨e0, e1⟩ := index_2 t
  have h0 : (((cfg0.win 2).blk t).view.emb y 0).val = win0_2.index t (0 : Fin 2) * 2048 + 1 * (y 0).val := rfl
  have h1 : (((cfg0.win 2).blk t).view.emb y 1).val = win0_2.index t (1 : Fin 2) * 8 + 1 * (y 1).val := rfl
  refine (eq_ix2 _).trans (congrArg₂ ix2 (Fin.ext ?_) (Fin.ext ?_))
  · refine h0.trans ?_
    show _ = 2048 * t.val + (y 0).val
    rw [e0]; omega
  · refine h1.trans ?_
    rw [e1]; omega

/-- Point t writes back block t of all positions. -/
theorem flushed_2 (c : Dev nD) (t : Fin cfg0.N) : (dats m 0 c).flushed 2 t
    = ((cfg0.win 2).blk t).view.read (Elt F) (positions (V m c main_v0) (V m c main_v2)) := by
  show (cfg0.win 2).cut (grid0.coords t) ((dats m 0 c).after 2 t) = _
  rw [after0_2, block_at]
  funext y
  refine Eq.trans ?_ (congrArg (positions (V m c main_v0) (V m c main_v2)) (emb_2 t y)).symm
  refine Eq.trans ?_ (positions_apply _ _ (pt t) (y 0) (y 1)).symm
  refine congrArg (block (xBlk (V m c main_v0) (pt t)) (V m c main_v2) (allNorms (V m c main_v2))) ?_
  exact eq_ix2 ((cfg0.win 2).xinj (grid0.coords t) y)

/-- Every entry of the result array lies in some point's block. -/
theorem covered_2 (i : S8192x8.Idx) :
    ∃ t : Fin cfg0.N, (cfg0.win 2).flush t = true ∧ i ∈ ((cfg0.win 2).blk t).view.set := by
  have hi : (i 0).val < 8192 := (i 0).isLt
  let t : Fin cfg0.N := ⟨(i 0).val / 2048, lt_of_lt_of_eq (by omega) N_0.symm⟩
  let r : Fin 2048 := ⟨(i 0).val % 2048, Nat.mod_lt _ (by decide)⟩
  have e : ix2 (rowAt (pt t) r) (i 1) = i := by
    refine Eq.trans (congrArg (fun k : Fin 8192 => ix2 k (i 1)) (Fin.ext ?_)) (eq_ix2 i).symm
    show 2048 * ((i 0).val / 2048) + (i 0).val % 2048 = (i 0).val
    omega
  have hm : ((cfg0.win 2).blk t).view.emb (ix2 r (i 1)) ∈ ((cfg0.win 2).blk t).view.set := View.emb_mem_set _ _
  have he : ((cfg0.win 2).blk t).view.emb (ix2 r (i 1)) = i := (emb_2 t (ix2 r (i 1))).trans e
  exact ⟨t, flush0_2 t, he ▸ hm⟩

/-- The result array after the run. -/
theorem array_2 (c : Dev nD) : (dats m 0 c).arrAt 2 cfg0.N = positions (V m c main_v0) (V m c main_v2) :=
  (dats m 0 c).arrAt_eq_of_cover 2 _ (fun t _ => flushed_2 m c t) covered_2

/-! ## The program's result -/

/-- The kernel's result of its arguments. -/
def result (x : FVec F S8x1024x256 .f32) (mn : FVec F S8x1024x32 .f32) : IVec S8x1024x8 32 :=
  shapeCast S8x1024x8 (positions (shapeCast S8192x256 x shapeCasts_S8x1024x256_S8192x256)
    (shapeCast S256x1024 (transpose S8x32x1024 [0, 2, 1] mn transposes_S8x1024x32_S8x32x1024_0_2_1)
      shapeCasts_S8x32x1024_S256x1024)) shapeCasts_S8192x8_S8x1024x8

/-- The rows as the region meets them. -/
theorem V_rows (c : Dev nD) : V m c main_v0
    = shapeCast S8192x256 (m ((c : Thread nD τ).loc main_arg0)) shapeCasts_S8x1024x256_S8192x256 := by
  show StableHlo.after _ _ _ = _
  simp only [List.flatten_cons, List.flatten_nil, List.append_nil]
  after_results
  rfl

/-- The means as the region meets them. -/
theorem V_means (c : Dev nD) : V m c main_v2
    = shapeCast S256x1024 (transpose S8x32x1024 [0, 2, 1] (m ((c : Thread nD τ).loc main_arg1))
        transposes_S8x1024x32_S8x32x1024_0_2_1) shapeCasts_S8x32x1024_S256x1024 := by
  show StableHlo.after _ _ _ = _
  simp only [List.flatten_cons, List.flatten_nil, List.append_nil]
  after_results
  rfl

/-- The program's last operation on the result array. -/
theorem tail_eq (c : Dev nD) : Pipeline.afterTail₀ cfgs (dats m) 0 (V0 m) [hostOps1] c main_v4
    = result (m ((c : Thread nD τ).loc main_arg0)) (m ((c : Thread nD τ).loc main_arg1)) := by
  have e : Pipeline.withArrays cfg0.spec c (V0 m c) (fun w => (dats m 0 c).arrAt w cfg0.N) (Proc.devRef .tc main_v3)
      = positions (V m c main_v0) (V m c main_v2) :=
    (Pipeline.withArrays_arr cfg0.spec (by decide) c (V0 m c) _ 2).trans (array_2 m c)
  show StableHlo.after [hostOps1].flatten _ _ = _
  simp only [List.flatten_cons, List.flatten_nil, List.append_nil]
  after_results
  unfold result
  rw [← V_rows, ← V_means, ← e]
  rfl

/-- Every execution of the kernel terminates with `result` of its arguments in the result buffer and the arguments
    unchanged. -/
theorem run_result : θ_run defs (onTc (τ := τ) (main (F := F))) ⟨m, fun _ => 0, ρ⟩ fun r => ∀ c : Dev nD,
      r.2.mem ((c : Thread nD τ).loc main_v4)
          = result (m ((c : Thread nD τ).loc main_arg0)) (m ((c : Thread nD τ).loc main_arg1))
        ∧ r.2.mem ((c : Thread nD τ).loc main_arg0) = m ((c : Thread nD τ).loc main_arg0)
        ∧ r.2.mem ((c : Thread nD τ).loc main_arg1) = m ((c : Thread nD τ).loc main_arg1) :=
  (θ_run defs _ _).mono (fun r h c =>
      ⟨((h c).2 main_v4 (Pipeline.mem_restRefs_of main_v4 (by decide) (by decide))).trans (tail_eq m c),
        ((h c).2 main_arg0 (Pipeline.mem_restRefs_of main_arg0 (by decide) (by decide))).trans
          (Cert.KernelIdeal.Gen.W_main_arg0 m (dats m) c),
        ((h c).2 main_arg1 (Pipeline.mem_restRefs_of main_arg1 (by decide) (by decide))).trans
          (Cert.KernelIdeal.Gen.W_main_arg1 m (dats m) c)⟩)
    (run_main m ρ)

end Cert.Proof.Ker

end
-- ==== Proof.Equation.lean ====
/-
  The kernel's result is the reference's. For row (b, n) and head h the kernel takes the first position of a least
  `½‖m‖² - ⟨x, m⟩`, the reference of a least `‖x‖² - 2⟨x, m⟩ + ‖m‖²`. Where the row's norm is finite the second is the
  norm plus twice the first, so both order the means alike, infinite means included.
-/
module

public import proofs.«01_k».proof.Proof.KernelRun
public import proofs.«01_k».proof.Pre_x_finite

@[expose] public section

noncomputable section

namespace Cert.Proof.Ker

open Cert.KernelIdeal
open Cert.KernelIdeal.Facts₀ Cert.KernelIdeal.Facts
open Cert.Proof.Ref (lane xNorm mNorm inner)
open Idealize.ShloMosaic Idealize.ShloMosaic.ValueIdx
open scoped BigOperators

/-- What the kernel compares: mean k's half squared norm less its product with row (b, n), within head h. -/
def half (x : FVec Ideal S8x1024x256 .f32) (mn : FVec Ideal S8x1024x32 .f32) (b : Fin 8) (n : Fin 1024) (h : Fin 8)
    (k : Fin 1024) : EReal :=
  ((1 / 2 : ℝ) : EReal) * mNorm mn h k - inner x mn b n h k

/-! ## The kernel's result -/

/-- The rows as the region meets them: row (b, n) is row 1024·b + n. -/
theorem rows_apply (x : FVec Ideal S8x1024x256 .f32) (b : Fin 8) (n : Fin 1024) (l : Fin 256) (R : Fin 8192)
    (hR : R.val = 1024 * b.val + n.val) :
    shapeCast S8192x256 x shapeCasts_S8x1024x256_S8192x256 (ix2 R l) = x (ix3 b n l) := by
  refine shapeCast_apply _ _ _ _ ?_
  rw [Shape.rowMajor_val_two, Shape.rowMajor_val_three]
  show (b.val * 1024 + n.val) * 256 + l.val = R.val * 256 + l.val
  rw [hR]; ring

/-- The means as the region meets them: feature d of mean k of head h is at row 32·h + d and column k. -/
theorem means_apply (mn : FVec Ideal S8x1024x32 .f32) (h : Fin 8) (d : Fin 32) (k : Fin 1024) :
    shapeCast S256x1024 (transpose S8x32x1024 [0, 2, 1] mn transposes_S8x1024x32_S8x32x1024_0_2_1)
      shapeCasts_S8x32x1024_S256x1024 (ix2 (lane h d) k) = mn (ix3 h k d) := by
  refine (shapeCast_apply _ _ _ (ix3 h d k) ?_).trans
    (transpose_apply _ _ _ (ix3 h d k) (ix3 h k d) (by intro a; fin_cases a <;> rfl))
  rw [Shape.rowMajor_val_two, Shape.rowMajor_val_three]
  show (h.val * 32 + d.val) * 1024 + k.val = (32 * h.val + d.val) * 1024 + k.val
  ring

/-- The kernel's result at (b, n, h) is the first position of a least `half`. -/
theorem result_apply (x : FVec Ideal S8x1024x256 .f32) (mn : FVec Ideal S8x1024x32 .f32) (b : Fin 8) (n : Fin 1024)
    (h : Fin 8) (k : Fin 1024) (hk : IsFirstMin (half x mn b n h) k) :
    result x mn (ix3 b n h) = BitVec.ofNat 32 k.val := by
  have hb := b.isLt
  have hn := n.isLt
  let q : Fin 4 := ⟨b.val / 2, by omega⟩
  let r : Fin 2048 := ⟨1024 * (b.val % 2) + n.val, by omega⟩
  have hR : (rowAt q r).val = 1024 * b.val + n.val := by
    show 2048 * (b.val / 2) + (1024 * (b.val % 2) + n.val) = _
    omega
  unfold result
  refine (shapeCast_apply _ _ (ix3 b n h) (ix2 (rowAt q r) h) ?_).trans ((positions_apply _ _ q r h).trans ?_)
  · rw [Shape.rowMajor_val_two, Shape.rowMajor_val_three]
    show (rowAt q r).val * 8 + h.val = (b.val * 1024 + n.val) * 8 + h.val
    rw [hR]; ring
  · refine headPos_apply _ _ _ r k ?_
    convert hk using 1
    funext k
    refine congrArg₂ (· - ·) ((halfNorms_apply _ k).trans ?_) (Finset.sum_congr rfl fun d _ => ?_)
    · exact congrArg (((1 / 2 : ℝ) : EReal) * ·) (Finset.sum_congr rfl fun d _ =>
        congrArg₂ (· * ·) (means_apply mn h d k) (means_apply mn h d k))
    · exact congrArg₂ (· * ·) (rows_apply x b n (lane h d) (rowAt q r) hR) (means_apply mn h d k)

/-! ## The two orders -/

/-- The precondition: every entry of x is a real number. -/
theorem real_of_pre [Cert.Pre_x_finite.Facts] (x : FVec Ideal S8x1024x256 .f32) (mn : FVec Ideal S8x1024x32 .f32)
    (hp : Cert.Pre_x_finite.fn (F := Ideal) x mn = fun _ => 1#1) (j : S8x1024x256.Idx) : ∃ r : ℝ, x j = (r : EReal) := by
  have e : Ideal.cmp .olt (max (x j) (-(x j))) (Ideal.ofBits .f32 0x7F800000#32) = 1#1 := congrFun hp j
  rw [Cert.Proof.Ref.ofBits_inf] at e
  have hlt : max (x j) (-(x j)) < (⊤ : EReal) := by
    by_contra hc
    simp [Ideal.cmp, hc] at e
  have h1 : x j ≠ ⊤ := fun he => by simp [he] at hlt
  have h2 : x j ≠ ⊥ := fun he => by simp [he] at hlt
  exact ⟨(x j).toReal, (EReal.coe_toReal h1 h2).symm⟩

/-- So a row's squared norm within a head is a real number. -/
theorem xNorm_real (x : FVec Ideal S8x1024x256 .f32) (hx : ∀ j, ∃ r : ℝ, x j = (r : EReal)) (b : Fin 8) (n : Fin 1024)
    (h : Fin 8) : ∃ r : ℝ, xNorm x b n h = (r : EReal) := by
  choose g hg using hx
  refine ⟨∑ d : Fin 32, g (ix3 b n (lane h d)) * g (ix3 b n (lane h d)), ?_⟩
  unfold xNorm
  refine Eq.trans (Finset.sum_congr rfl fun d _ => ?_)
    (map_sum (⟨⟨Real.toEReal, EReal.coe_zero⟩, EReal.coe_add⟩ : ℝ →+ EReal) _ _).symm
  rw [hg]
  exact (EReal.coe_mul _ _).symm

/-- The reference's distance is the row's squared norm plus twice what the kernel compares. -/
theorem dist_eq (x : FVec Ideal S8x1024x256 .f32) (mn : FVec Ideal S8x1024x32 .f32) (b : Fin 8) (n : Fin 1024) (h : Fin 8)
    (k : Fin 1024) : Cert.Proof.Ref.dist x mn (ix4 b n h k) = xNorm x b n h + ((2 : ℝ) : EReal) * half x mn b n h k := by
  rw [Cert.Proof.Ref.dist_apply, half, two_mul_half_sub, sub_eq_add_neg, sub_eq_add_neg, add_assoc]
  exact congrArg (xNorm x b n h + ·) (add_comm _ _)

/-- THE EQUATION: on a finite x the kernel's result is the reference's. -/
theorem result_eq_out [Cert.Pre_x_finite.Facts] (x : FVec Ideal S8x1024x256 .f32) (mn : FVec Ideal S8x1024x32 .f32)
    (hp : Cert.Pre_x_finite.fn (F := Ideal) x mn = fun _ => 1#1) : result x mn = Cert.Proof.Ref.out x mn := by
  funext j
  obtain ⟨b, n, h, rfl⟩ : ∃ (b : Fin 8) (n : Fin 1024) (h : Fin 8), j = ix3 b n h := ⟨j 0, j 1, j 2, eq_ix3 j⟩
  obtain ⟨k, hk, hout⟩ := Cert.Proof.Ref.out_apply x mn b n h
  obtain ⟨r, hr⟩ := xNorm_real x (real_of_pre x mn hp) b n h
  refine (result_apply x mn b n h k (hk.of_le_iff fun i i' => ?_)).trans hout.symm
  show Cert.Proof.Ref.dist x mn (ix4 b n h i) ≤ Cert.Proof.Ref.dist x mn (ix4 b n h i') ↔ _
  rw [dist_eq, dist_eq, hr, coe_add_le_iff, two_mul_le_iff]

end Cert.Proof.Ker

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_x_finite
public import proofs.«01_k».proof.Proof.Equation
public import Idealize.ShloMosaic.Adequacy
public import Idealize.ShloMosaic.Init

@[expose] public section

noncomputable section

namespace Cert.Proof

open Idealize.ShloMosaic Idealize.SL.Sem

/-- At the ideal values, from memories agreeing on the arguments and on a finite x, the kernel and the reference both run
    and end with the same result, the arguments unchanged. -/
theorem same_result : Cert.algebraic_KernelIdeal_ReferenceIdeal_pre_x_finite := by
  intro m g m' g' hp hargs
  refine ⟨fun c => Cert.Proof.Ker.result (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.Proof.Ker.run_result (F := Ideal) m g, ?_⟩
  refine (θ_run _ _ _).mono (fun r h c => ⟨(h c).1.trans ?_, (h c).2⟩) (Cert.Proof.Ref.run_main (F := Ideal) m' g')
  have e := Cert.Proof.Ker.result_eq_out _ _ (hp c)
  exact (congrArg₂ Cert.Proof.Ref.out (hargs c).1 (hargs c).2).trans e.symm

/-- Every execution of the kernel, idealized or not, and of the reference terminates with the arguments unchanged and
    every semaphore counter at zero. The printed kernel and the idealized one are the same operations. At the ideal
    values, on a finite x, the kernel and the reference end with the same result: the kernel's positions are the
    reference's. -/
theorem claim : Cert.Claim :=
  ⟨Cert.Kernel.Gen.facts, Cert.KernelIdeal.Gen.facts, Cert.ReferenceIdeal.Gen.facts, Cert.Pre_x_finite.Gen.facts,
    fun m ρ _ => Cert.Kernel.Gen.frame m ρ,
    fun m ρ _ => Cert.KernelIdeal.Gen.frame m ρ,
    fun m ρ _ => Cert.KernelIdeal.Gen.frame m ρ,
    fun m ρ _ => Cert.Proof.Ref.frame m ρ,
    fun m ρ _ => Cert.Proof.Ref.frame m ρ,
    trivial,
    same_result⟩

end Cert.Proof

end
